-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1x4096 : Shape := ⟨3, ![1536, 1, 4096]⟩
abbrev S11008x2048 : Shape := ⟨2, ![11008, 2048]⟩
abbrev S11008x128 : Shape := ⟨2, ![11008, 128]⟩
abbrev S1536x4096 : Shape := ⟨2, ![1536, 4096]⟩
abbrev S1536x11008 : Shape := ⟨2, ![1536, 11008]⟩
abbrev S256x2048 : Shape := ⟨2, ![256, 2048]⟩
abbrev S256x128 : Shape := ⟨2, ![256, 128]⟩
abbrev S1536x256 : Shape := ⟨2, ![1536, 256]⟩
abbrev S256x4096 : Shape := ⟨2, ![256, 4096]⟩
abbrev S64x128 : Shape := ⟨2, ![64, 128]⟩
abbrev S64x128x1 : Shape := ⟨3, ![64, 128, 1]⟩
abbrev S256x128x1 : Shape := ⟨3, ![256, 128, 1]⟩

abbrev nBuf : Space → Nat
  | .hbm => 5
  | .vmem => 8
  | .smem => 0
  | _ => 0

abbrev bufTy : (tb : Table) → Fin (tcTables nBuf tb) → BufTy
  | .hbm, ⟨0, _⟩ => ⟨S1536x1x4096, .bf16⟩
  | .hbm, ⟨1, _⟩ => ⟨S11008x2048, .i8⟩
  | .hbm, ⟨2, _⟩ => ⟨S11008x128, .bf16⟩
  | .hbm, ⟨3, _⟩ => ⟨S1536x4096, .bf16⟩
  | .hbm, ⟨4, _⟩ => ⟨S1536x11008, .bf16⟩
  | .local _ .vmem, ⟨0, _⟩ => ⟨S1536x4096, .bf16⟩
  | .local _ .vmem, ⟨1, _⟩ => ⟨S256x2048, .i8⟩
  | .local _ .vmem, ⟨2, _⟩ => ⟨S256x2048, .i8⟩
  | .local _ .vmem, ⟨3, _⟩ => ⟨S256x128, .bf16⟩
  | .local _ .vmem, ⟨4, _⟩ => ⟨S256x128, .bf16⟩
  | .local _ .vmem, ⟨5, _⟩ => ⟨S1536x256, .bf16⟩
  | .local _ .vmem, ⟨6, _⟩ => ⟨S1536x256, .bf16⟩
  | .local _ .vmem, ⟨7, _⟩ => ⟨S256x4096, .bf16⟩
  | _, _ => ⟨S1536x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1536x1x4096 : Shape := ⟨3, ![1536, 1, 4096]⟩
abbrev S11008x2048 : Shape := ⟨2, ![11008, 2048]⟩
abbrev S11008x128 : Shape := ⟨2, ![11008, 128]⟩
abbrev S11008x128x16 : Shape := ⟨3, ![11008, 128, 16]⟩
abbrev S_ : Shape := ⟨0, ![]⟩
abbrev S11008x128x1 : Shape := ⟨3, ![11008, 128, 1]⟩
abbrev S1536x1x128x32 : Shape := ⟨4, ![1536, 1, 128, 32]⟩
abbrev S1536x1x128x16 : Shape := ⟨4, ![1536, 1, 128, 16]⟩
abbrev S1536x1x11008 : Shape := ⟨3, ![1536, 1, 11008]⟩
abbrev S1536x11008 : Shape := ⟨2, ![1536, 11008]⟩

abbrev nBuf : Space → Nat
  | .hbm => 33
  | .vmem => 0
  | .smem => 0
  | _ => 0

abbrev bufTy : (tb : Table) → Fin (tcTables nBuf tb) → BufTy
  | .hbm, ⟨0, _⟩ => ⟨S1536x1x4096, .bf16⟩
  | .hbm, ⟨1, _⟩ => ⟨S11008x2048, .i8⟩
  | .hbm, ⟨2, _⟩ => ⟨S11008x128, .bf16⟩
  | .hbm, ⟨3, _⟩ => ⟨S11008x128x16, .i8⟩
  | .hbm, ⟨4, _⟩ => ⟨S11008x128x16, .i32⟩
  | .hbm, ⟨5, _⟩ => ⟨S_, .i32⟩
  | .hbm, ⟨6, _⟩ => ⟨S11008x128x16, .i32⟩
  | .hbm, ⟨7, _⟩ => ⟨S11008x128x16, .i32⟩
  | .hbm, ⟨8, _⟩ => ⟨S_, .i32⟩
  | .hbm, ⟨9, _⟩ => ⟨S11008x128x16, .i32⟩
  | .hbm, ⟨10, _⟩ => ⟨S11008x128x16, .i32⟩
  | .hbm, ⟨11, _⟩ => ⟨S11008x128x16, .bf16⟩
  | .hbm, ⟨12, _⟩ => ⟨S_, .bf16⟩
  | .hbm, ⟨13, _⟩ => ⟨S11008x128x16, .bf16⟩
  | .hbm, ⟨14, _⟩ => ⟨S11008x128x16, .bf16⟩
  | .hbm, ⟨15, _⟩ => ⟨S11008x128x1, .bf16⟩
  | .hbm, ⟨16, _⟩ => ⟨S11008x128x16, .bf16⟩
  | .hbm, ⟨17, _⟩ => ⟨S11008x128x16, .bf16⟩
  | .hbm, ⟨18, _⟩ => ⟨S11008x128x16, .bf16⟩
  | .hbm, ⟨19, _⟩ => ⟨S_, .bf16⟩
  | .hbm, ⟨20, _⟩ => ⟨S11008x128x16, .bf16⟩
  | .hbm, ⟨21, _⟩ => ⟨S11008x128x16, .bf16⟩
  | .hbm, ⟨22, _⟩ => ⟨S11008x128x1, .bf16⟩
  | .hbm, ⟨23, _⟩ => ⟨S11008x128x16, .bf16⟩
  | .hbm, ⟨24, _⟩ => ⟨S11008x128x16, .bf16⟩
  | .hbm, ⟨25, _⟩ => ⟨S1536x1x128x32, .bf16⟩
  | .hbm, ⟨26, _⟩ => ⟨S1536x1x128x16, .bf16⟩
  | .hbm, ⟨27, _⟩ => ⟨S1536x1x11008, .f32⟩
  | .hbm, ⟨28, _⟩ => ⟨S1536x1x128x16, .bf16⟩
  | .hbm, ⟨29, _⟩ => ⟨S1536x1x11008, .f32⟩
  | .hbm, ⟨30, _⟩ => ⟨S1536x1x11008, .f32⟩
  | .hbm, ⟨31, _⟩ => ⟨S1536x1x11008, .bf16⟩
  | .hbm, ⟨32, _⟩ => ⟨S1536x11008, .bf16⟩
  | _, _ => ⟨S1536x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Dequant.lean ====
/- The text of one dequantised chunk: 128 output columns of one block of 256 weight rows, as the kernel computes it from
   the block's loaded bytes and scales. The kernel writes 32 of these; they differ in two numbers (where the packed bytes
   start in the loaded register, and which group of scales comes first) and in which columns of bytes are loaded. -/
module

public import proofs.«01_k».proof.Proof.Gen.KernelIdeal.Frame

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- Floor division of a vector of integers by a number, as the kernel spells it: the truncating quotient, less one where
    the signs differ and the remainder is not zero. -/
def floorDiv {s : Shape} (x : IVec s 32) (d : BitVec 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32))
    (divsi x (broadcast s d))

/-- The divisor the kernel's remainder uses: one in place of zero. -/
def safeDiv (d : BitVec 32) : BitVec 32 := Scalar.select (Scalar.cmpi .eq d 0#32) 1#32 d

/-- The remainder with the divisor's sign, as the kernel spells it: the truncating remainder, plus the divisor where it is
    not zero and of the other sign. -/
def floorMod {s : Shape} (x : IVec s 32) (d : BitVec 32) : IVec s 32 :=
  select
    (andi
      (xori (cmpi .slt (remsi x (broadcast s (safeDiv d))) (broadcast s 0#32)) (broadcast s (Scalar.cmpi .slt (safeDiv d) 0#32)))
      (cmpi .ne (remsi x (broadcast s (safeDiv d))) (broadcast s 0#32)))
    (addi (remsi x (broadcast s (safeDiv d))) (broadcast s (safeDiv d)))
    (remsi x (broadcast s (safeDiv d)))

/-- An index along the 128 lanes, a negative one counted from the end. -/
def wrap {s : Shape} (x : IVec s 32) : IVec s 32 :=
  select (cmpi .slt x (broadcast s 0#32)) (addi x (broadcast s 128#32)) x

/-- The lane number at each place of a 64 by 128 register. -/
def lanes64 : IVec S64x128 32 := iota .tc S64x128 32 [1] iota_S64x128_d1_w32

/-- The lane number at each place of a 256 by 128 register. -/
def lanes256 : IVec S256x128 32 := iota .tc S256x128 32 [1] iota_S256x128_d1_w32

/-- Which lane of packed words each output lane reads, when the chunk's bytes start at lane `base`. -/
def srcLane (base : BitVec 32) : IVec S64x128 32 :=
  addi (addi (broadcast S64x128 base) (muli (floorDiv lanes64 32#32) (broadcast S64x128 16#32))) (floorMod lanes64 16#32)

/-- By how many bits each output lane's word is shifted: 0 for the low half of a group, 4 for the high half. -/
def shiftBy : IVec S64x128 32 :=
  muli (floorMod (floorDiv lanes64 16#32) 2#32) (broadcast S64x128 4#32)

/-- The four-bit codes of a chunk, one byte each, from the packed bytes taken four rows to a word. -/
def codes (base : BitVec 32) (w : Vec F S256x128 .i8) : IVec S256x128 8 :=
  bitcast S256x128 8
    (andi
      (shrui
        (dynamicGather 1 (bitcast S64x128 32 w bitcasts_S256x128_w8_S64x128_w32)
          (shapeCast S64x128 (shapeCast S64x128x1 (wrap (srcLane base)) shapeCasts_S64x128_S64x128x1) shapeCasts_S64x128x1_S64x128))
        shiftBy)
      (broadcast S64x128 252645135#32))
    bitcasts_S64x128_w32_S256x128_w8

/-- The scale of each place of a chunk whose first group of scales is `grp`. -/
def scales (grp : BitVec 32) (s : FVec F S256x128 .bf16) : FVec F S256x128 .bf16 :=
  truncf .bf16
    (dynamicGather 1 (extf .f32 s bitsLt_bf16_f32)
      (shapeCast S256x128
        (shapeCast S256x128x1 (wrap (addi (broadcast S256x128 grp) (floorDiv lanes256 32#32))) shapeCasts_S256x128_S256x128x1)
        shapeCasts_S256x128x1_S256x128))
    bitsLt_bf16_f32

/-- One chunk of dequantised weights: (code − 8) · scale. -/
def chunk (base grp : BitVec 32) (w : Vec F S256x128 .i8) (s : FVec F S256x128 .bf16) : FVec F S256x128 .bf16 :=
  shapeCast S256x128
    (mulf (subf (sitofp .bf16 (codes (F := F) base w)) (broadcast S256x128 (Scalar.ofBits .bf16 0x4100#16))) (scales grp s))
    shapeCasts_S256x128_S256x128

end Cert.KernelIdeal.Value

end
-- ==== Proof.Pieces.lean ====
/- The scratch array the kernel's one product reads: the 32 chunks written into it, as one family. -/
module

public import proofs.«01_k».proof.Proof.Dequant

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The 128 columns of packed bytes a pair of chunks is computed from lie inside the block of packed bytes. -/
theorem inb_bytes (k : Fin 32) : ∀ a, (![0, 128 * (k.val / 2)] : Fin 2 → Nat) a + S256x128.size a ≤ S256x2048.size a := by
  revert k; decide

/-- The 128 columns a chunk is written to lie inside the scratch array. -/
theorem inb_chunk (k : Fin 32) : ∀ a, (![0, 128 * k.val] : Fin 2 → Nat) a + S256x128.size a ≤ S256x4096.size a := by
  revert k; decide

variable (arg2 : Memref sig .tc .vmem S256x2048 .i8) (harg2 : arg2.IsWhole)
  (arg3 : Memref sig .tc .vmem S256x128 .bf16) (harg3 : arg3.IsWhole)
  (x1 : Vec F S256x2048 .i8) (x2 : Vec F S256x128 .bf16)

/-- The packed bytes chunk `k` is computed from, loaded: columns `128 · (k / 2)` on. -/
def bytesOf (k : Fin 32) : Vec F S256x128 .i8 :=
  View.readAt (Elt F) arg2.view (Rect.unit (s := S256x2048) ![0, 128 * (k.val / 2)] S256x128.size (inb_bytes k)).toLoadRect (harg2.unread x1)

/-- The block's scales, loaded. -/
def scalesOf : Vec F S256x128 .bf16 :=
  View.readAt (Elt F) arg3.view (Rect.unit (s := S256x128) ![0, 0] S256x128.size inb_S256x128_S256x128_0_0).toLoadRect (harg3.unread x2)

/-- The write of chunk `k` into the scratch array: columns `128 · k` on. -/
def pieceOf (k : Fin 32) : View.Piece (Elt F) S256x4096 .bf16 :=
  ⟨Rect.unit (s := S256x4096) ![0, 128 * k.val] S256x128.size (inb_chunk k),
    chunk (BitVec.ofNat 32 (64 * (k.val % 2))) (BitVec.ofNat 32 (4 * k.val)) (bytesOf arg2 harg2 x1 k) (scalesOf arg3 harg3 x2)⟩

/-- The run's writes into the scratch array are the 32 chunks, the last one first. -/
theorem writes_eq (c : Dev nD) :
    kernelRun0_A.sl.HS0_32 (F := F) c arg2 harg2 arg3 harg3 x1 x2
      = (List.finRange 32).reverse.map (pieceOf arg2 harg2 arg3 harg3 x1 x2) := by
  sl_kernel_rfl

end Cert.KernelIdeal.Value

end
-- ==== Proof.Chunk.lean ====
/- One dequantised chunk read at a row and a lane: (code − 8) · scale, with the code one half of a packed byte and the
   scale that of the lane's group of 32. -/
module

public import proofs.«01_k».proof.Proof.Dequant
public import Idealize.ShloMosaic.Lib.BitcastFour
public import Idealize.ShloMosaic.Lib.ValueIdx
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.ValueIdx

variable {F : FTy → Type} [FloatOps F]

/-! ## The integer index vectors, read at an index -/

/-- The kernel's floor division, on one number. -/
def floorDiv₁ (x d : BitVec 32) : BitVec 32 := floorDiv (s := ⟨0, ![]⟩) (fun _ => x) d ix0

/-- The kernel's remainder, on one number. -/
def floorMod₁ (x d : BitVec 32) : BitVec 32 := floorMod (s := ⟨0, ![]⟩) (fun _ => x) d ix0

/-- The floor division of a vector, read at an index. -/
theorem floorDiv_apply {s : Shape} (x : IVec s 32) (d : BitVec 32) (j : s.Idx) : floorDiv x d j = floorDiv₁ (x j) d := rfl

/-- The remainder of a vector, read at an index. -/
theorem floorMod_apply {s : Shape} (x : IVec s 32) (d : BitVec 32) (j : s.Idx) : floorMod x d j = floorMod₁ (x j) d := rfl

/-- The lane number at (a, l) is l. -/
theorem lanes64_apply (a : Fin 64) (l : Fin 128) : lanes64 (ix2 a l) = BitVec.ofNat 32 l.val := by
  show BitVec.ofNat 32 (0 * 128 + l.val) = _
  rw [Nat.zero_mul, Nat.zero_add]

/-- The lane number at (r, l) is l. -/
theorem lanes256_apply (r : Fin 256) (l : Fin 128) : lanes256 (ix2 r l) = BitVec.ofNat 32 l.val := by
  show BitVec.ofNat 32 (0 * 128 + l.val) = _
  rw [Nat.zero_mul, Nat.zero_add]

/-- On a lane number the kernel's floor division by 32 is the division of naturals. -/
theorem floorDiv₁_32 : ∀ l : Fin 128, floorDiv₁ (BitVec.ofNat 32 l.val) 32#32 = BitVec.ofNat 32 (l.val / 32) := by decide +kernel

/-- The same for 16. -/
theorem floorDiv₁_16 : ∀ l : Fin 128, floorDiv₁ (BitVec.ofNat 32 l.val) 16#32 = BitVec.ofNat 32 (l.val / 16) := by decide +kernel

/-- On a lane number the kernel's remainder by 16 is the remainder of naturals. -/
theorem floorMod₁_16 : ∀ l : Fin 128, floorMod₁ (BitVec.ofNat 32 l.val) 16#32 = BitVec.ofNat 32 (l.val % 16) := by decide +kernel

/-- The same for the parity of the half that a lane lies in. -/
theorem floorMod₁_2 : ∀ l : Fin 128, floorMod₁ (BitVec.ofNat 32 (l.val / 16)) 2#32 = BitVec.ofNat 32 (l.val / 16 % 2) := by
  decide +kernel

/-- The lane of packed words that output lane `l` of a chunk reads, `h` being 0 for the first chunk of a pair and 1 for the
    second. -/
def srcOf (h : Fin 2) (l : Fin 128) : Fin 128 := ⟨64 * h.val + l.val / 32 * 16 + l.val % 16, by omega⟩

/-- The lane that is gathered from is computed without overflow and is not negative, so no 128 is added to it. -/
theorem wrap_src : ∀ (h : Fin 2) (l : Fin 128),
    Scalar.select (IntOp.cmpi .slt
        (BitVec.ofNat 32 (64 * h.val) + BitVec.ofNat 32 (l.val / 32) * 16#32 + BitVec.ofNat 32 (l.val % 16)) 0#32)
      (BitVec.ofNat 32 (64 * h.val) + BitVec.ofNat 32 (l.val / 32) * 16#32 + BitVec.ofNat 32 (l.val % 16) + 128#32)
      (BitVec.ofNat 32 (64 * h.val) + BitVec.ofNat 32 (l.val / 32) * 16#32 + BitVec.ofNat 32 (l.val % 16))
    = BitVec.ofNat 32 (srcOf h l).val := by decide +kernel

/-- The index vector of the gather of packed words. -/
theorem wrap_srcLane_apply (h : Fin 2) (a : Fin 64) (l : Fin 128) :
    wrap (srcLane (BitVec.ofNat 32 (64 * h.val))) (ix2 a l) = BitVec.ofNat 32 (srcOf h l).val := by
  have e : srcLane (BitVec.ofNat 32 (64 * h.val)) (ix2 a l)
      = BitVec.ofNat 32 (64 * h.val) + BitVec.ofNat 32 (l.val / 32) * 16#32 + BitVec.ofNat 32 (l.val % 16) := by
    show BitVec.ofNat 32 (64 * h.val) + floorDiv lanes64 32#32 (ix2 a l) * 16#32 + floorMod lanes64 16#32 (ix2 a l) = _
    rw [floorDiv_apply, floorMod_apply, lanes64_apply, floorDiv₁_32, floorMod₁_16]
  rw [← wrap_src, ← e]
  rfl

/-- The shift of output lane `l`: 0 in the first half of its group of 32, 4 in the second. -/
theorem shiftBy_apply (a : Fin 64) (l : Fin 128) : shiftBy (ix2 a l) = BitVec.ofNat 32 (4 * (l.val / 16 % 2)) := by
  have e : shiftBy (ix2 a l) = BitVec.ofNat 32 (l.val / 16 % 2) * 4#32 := by
    show floorMod (floorDiv lanes64 16#32) 2#32 (ix2 a l) * 4#32 = _
    rw [floorMod_apply, floorDiv_apply, lanes64_apply, floorDiv₁_16, floorMod₁_2]
  rw [e]
  exact (by decide +kernel : ∀ l : Fin 128, BitVec.ofNat 32 (l.val / 16 % 2) * 4#32 = BitVec.ofNat 32 (4 * (l.val / 16 % 2))) l

/-- The group of scales of lane `l` of chunk `k`. -/
def groupOf (k : Fin 32) (l : Fin 128) : Fin 128 := ⟨4 * k.val + l.val / 32, by omega⟩

/-- The same for the group whose scale is gathered. -/
theorem wrap_group : ∀ (k : Fin 32) (l : Fin 128),
    Scalar.select (IntOp.cmpi .slt (BitVec.ofNat 32 (4 * k.val) + BitVec.ofNat 32 (l.val / 32)) 0#32)
      (BitVec.ofNat 32 (4 * k.val) + BitVec.ofNat 32 (l.val / 32) + 128#32)
      (BitVec.ofNat 32 (4 * k.val) + BitVec.ofNat 32 (l.val / 32))
    = BitVec.ofNat 32 (groupOf k l).val := by decide +kernel

/-- The index vector of the gather of scales. -/
theorem wrap_group_apply (k : Fin 32) (r : Fin 256) (l : Fin 128) :
    wrap (addi (broadcast S256x128 (BitVec.ofNat 32 (4 * k.val))) (floorDiv lanes256 32#32)) (ix2 r l)
      = BitVec.ofNat 32 (groupOf k l).val := by
  have e : addi (broadcast S256x128 (BitVec.ofNat 32 (4 * k.val))) (floorDiv lanes256 32#32) (ix2 r l)
      = BitVec.ofNat 32 (4 * k.val) + BitVec.ofNat 32 (l.val / 32) := by
    show BitVec.ofNat 32 (4 * k.val) + floorDiv lanes256 32#32 (ix2 r l) = _
    rw [floorDiv_apply, lanes256_apply, floorDiv₁_32]
  rw [← wrap_group, ← e]
  rfl

/-- A gather along the lanes of a two-axis array whose index there is the lane `q` reads lane `q` of the same row. -/
theorem dynamicGather_lane {R : Nat} {α : Type} (x : (⟨2, ![R, 128]⟩ : Shape).Idx → α) (p : IVec ⟨2, ![R, 128]⟩ 32)
    (r : Fin R) (l q : Fin 128) (hq : p (ix2 r l) = BitVec.ofNat 32 q.val) :
    dynamicGather 1 x p (ix2 r l) = x (ix2 r q) := by
  refine congrArg x (funext fun b => ?_)
  match b with
  | ⟨0, _⟩ => rfl
  | ⟨1, _⟩ =>
    apply Fin.ext
    show (p (ix2 r l)).toNat % 128 = q.val
    rw [hq, BitVec.toNat_ofNat]
    have := q.isLt
    omega

/-! ## The codes -/

/-- The four-bit code in half `h` of a packed byte: the low half for 0, the high half for 1. -/
def nibble (b : BitVec 8) (h : Nat) : BitVec 8 := (b >>> (4 * h)) &&& 15#8

/-- The masked word at (a, l): the gathered word, shifted by the lane's shift, each byte cut to four bits. -/
theorem word_apply (h : Fin 2) (w : Vec F S256x128 .i8) (a : Fin 64) (l : Fin 128) :
    andi
      (shrui
        (dynamicGather 1 (bitcast S64x128 32 w bitcasts_S256x128_w8_S64x128_w32)
          (shapeCast S64x128 (shapeCast S64x128x1 (wrap (srcLane (BitVec.ofNat 32 (64 * h.val)))) shapeCasts_S64x128_S64x128x1)
            shapeCasts_S64x128x1_S64x128))
        shiftBy)
      (broadcast S64x128 252645135#32) (ix2 a l)
    = (bitcast S64x128 32 w bitcasts_S256x128_w8_S64x128_w32 (ix2 a (srcOf h l)) >>> (4 * (l.val / 16 % 2))) &&& 252645135#32 := by
  rw [shapeCast_shapeCast]
  show IntOp.andi (IntOp.shrui .vector (dynamicGather 1 _ _ (ix2 a l)) (shiftBy (ix2 a l))) 252645135#32 = _
  rw [dynamicGather_lane _ _ a l (srcOf h l) (wrap_srcLane_apply h a l), shiftBy_apply]
  rcases Nat.mod_two_eq_zero_or_one (l.val / 16) with e | e <;> rw [e] <;> rfl

/-- The mask of a word, in each of its four bytes, keeps the low four bits. -/
theorem mask_getLsbD : ∀ (p : Fin 4) (i : Fin 8), (252645135#32).getLsbD (8 * p.val + i.val) = decide (i.val < 4) := by decide

/-- The mask of one byte keeps the low four bits. -/
theorem low_getLsbD : ∀ i : Fin 8, (15#8).getLsbD i.val = decide (i.val < 4) := by decide

/-- The code at row `r`, lane `l` of a chunk: half `l / 16 % 2` of the packed byte at row `r`, lane `srcOf h l`. -/
theorem codes_apply (h : Fin 2) (w : Vec F S256x128 .i8) (r : Fin 256) (l : Fin 128) :
    codes (F := F) (BitVec.ofNat 32 (64 * h.val)) w (ix2 r l) = nibble (w (ix2 r (srcOf h l))) (l.val / 16 % 2) := by
  apply BitVec.eq_of_getLsbD_eq
  intro i hi
  unfold codes
  rw [bitcast_getLsbD _ _ _ i hi (by decide)]
  have hrow : S256x128.row (ix2 r l) = r.val := rfl
  have e1 : (S256x128.row (ix2 r l) * 8 + i) / 32 = r.val / 4 := by rw [hrow]; omega
  have e2 : (S256x128.row (ix2 r l) * 8 + i) % 32 = 8 * (r.val % 4) + i := by rw [hrow]; omega
  have ha : r.val / 4 < 64 := by omega
  have ei : bitcasts_S64x128_w32_S256x128_w8.srcIdx (ix2 r l) ((S256x128.row (ix2 r l) * 8 + i) / 32)
      (fun a ha => (Nat.div_lt_iff_lt_mul (by decide)).2 (bitcasts_S64x128_w32_S256x128_w8.pos_lt (ix2 r l) i hi a ha))
      = ix2 ⟨r.val / 4, ha⟩ l := by
    funext b
    apply Fin.ext
    match b with
    | ⟨0, _⟩ => rw [Shape.Bitcasts.srcIdx_row _ _ _ _ _ rfl]; exact e1
    | ⟨1, _⟩ => rw [Shape.Bitcasts.srcIdx_other _ _ _ _ _ (by show ¬ (1 + 2 = 2); decide)]; rfl
  rw [ei, word_apply, e2, BitVec.getLsbD_and, BitVec.getLsbD_ushiftRight, nibble, BitVec.getLsbD_and,
    BitVec.getLsbD_ushiftRight, mask_getLsbD ⟨r.val % 4, Nat.mod_lt _ (by decide)⟩ ⟨i, hi⟩, low_getLsbD ⟨i, hi⟩]
  by_cases h4 : i < 4
  · have hh : l.val / 16 % 2 < 2 := Nat.mod_lt _ (by decide)
    rw [bitcast_8_32_getLsbD_ix2 w _ ⟨r.val / 4, ha⟩ (srcOf h l) _ (by omega) r (by
      show r.val = 4 * (r.val / 4) + (4 * (l.val / 16 % 2) + (8 * (r.val % 4) + i)) / 8; omega)]
    congr 2
    omega
  · simp [h4]

/-! ## The scales -/

/-- The scale at row `r`, lane `l` of chunk `k`, over the extended reals: that of the row's group `groupOf k l`. -/
theorem scales_apply (k : Fin 32) (s : FVec Ideal S256x128 .bf16) (r : Fin 256) (l : Fin 128) :
    scales (F := Ideal) (BitVec.ofNat 32 (4 * k.val)) s (ix2 r l) = s (ix2 r (groupOf k l)) := by
  unfold scales
  rw [shapeCast_shapeCast, truncf_apply, dynamicGather_lane _ _ r l (groupOf k l) (wrap_group_apply k r l),
    extf_apply]

/-! ## The chunk -/

/-- A dequantised weight over the extended reals: the code less eight, times the scale. -/
def weight (code : BitVec 8) (scale : EReal) : EReal := (((code.toInt : ℝ) : EReal) - Ideal.ofBits .bf16 0x4100#16) * scale

/-- Chunk `k` at row `r`, lane `l`. -/
theorem chunk_apply (k : Fin 32) (h : Fin 2) (w : Vec Ideal S256x128 .i8) (s : FVec Ideal S256x128 .bf16) (r : Fin 256) (l : Fin 128) :
    chunk (F := Ideal) (BitVec.ofNat 32 (64 * h.val)) (BitVec.ofNat 32 (4 * k.val)) w s (ix2 r l)
      = weight (nibble (w (ix2 r (srcOf h l))) (l.val / 16 % 2)) (s (ix2 r (groupOf k l))) := by
  unfold chunk
  rw [shapeCast_self, mulf_apply, subf_apply, scales_apply, sitofp_apply, codes_apply]
  rfl

end Cert.KernelIdeal.Value

end
-- ==== Proof.Block.lean ====
/- What one grid point of the kernel computes: the scratch array holds the block of dequantised weights, and the block of the
   result is the product of the whole activation array with it. -/
module

public import proofs.«01_k».proof.Proof.Pieces
public import proofs.«01_k».proof.Proof.Chunk
public import Idealize.ShloMosaic.Lib.WholeRead
public import Idealize.ShloMosaic.Lib.Writes
public import Idealize.ShloMosaic.Lib.MatmulPlain
public import Idealize.ShloMosaic.Lib.IdealHost

@[expose] public section

noncomputable section

namespace Cert.KernelIdeal.Value

open Cert.KernelIdeal Cert.KernelIdeal.Gen Idealize.ShloMosaic Idealize.ShloMosaic.TcCoe Idealize.SL.Sem
open Idealize.ShloMosaic.ValueIdx
open scoped BigOperators

/-- The column of packed bytes that holds column `c` of a weight row: 16 bytes to a group of 32. -/
def packedCol (c : Fin 4096) : Fin 2048 := ⟨16 * (c.val / 32) + c.val % 16, by omega⟩

/-- The group of 32 columns that column `c` lies in. -/
def groupCol (c : Fin 4096) : Fin 128 := ⟨c.val / 32, by omega⟩

/-- The weight at row `o`, column `c` of a packed matrix of `R` rows, dequantised. -/
def dequant {R : Nat} (w : (⟨2, ![R, 2048]⟩ : Shape).Idx → BitVec 8) (s : (⟨2, ![R, 128]⟩ : Shape).Idx → EReal)
    (o : Fin R) (c : Fin 4096) : EReal :=
  weight (nibble (w (ix2 o (packedCol c))) (c.val / 16 % 2)) (s (ix2 o (groupCol c)))

section
variable (arg2 : Memref sig .tc .vmem S256x2048 .i8) (harg2 : arg2.IsWhole)
  (arg3 : Memref sig .tc .vmem S256x128 .bf16) (harg3 : arg3.IsWhole)
  (x1 : Vec Ideal S256x2048 .i8) (x2 : Vec Ideal S256x128 .bf16)

/-- The packed bytes loaded for chunk `k`, at row `r`, lane `l`. -/
theorem bytesOf_apply (k : Fin 32) (r : Fin 256) (l : Fin 128) :
    bytesOf arg2 harg2 x1 k (ix2 r l) = x1 (ix2 r ⟨128 * (k.val / 2) + l.val, by omega⟩) := by
  unfold bytesOf
  rw [harg2.readAt_unread]
  refine congrArg x1 (funext fun a => Fin.ext ?_)
  match a with
  | ⟨0, _⟩ => show 0 + 1 * r.val = r.val; omega
  | ⟨1, _⟩ => show 128 * (k.val / 2) + 1 * l.val = 128 * (k.val / 2) + l.val; omega

/-- The block's scales as loaded are the block's scales. -/
theorem scalesOf_apply (r : Fin 256) (g : Fin 128) : scalesOf arg3 harg3 x2 (ix2 r g) = x2 (ix2 r g) := by
  unfold scalesOf
  rw [harg3.readAt_unread]
  refine congrArg x2 (funext fun a => Fin.ext ?_)
  match a with
  | ⟨0, _⟩ => show 0 + 1 * r.val = r.val; omega
  | ⟨1, _⟩ => show 0 + 1 * g.val = g.val; omega

/-- The value chunk `k` writes at row `r`, lane `l` is the dequantised weight of column `128 · k + l`. -/
theorem pieceOf_apply (k : Fin 32) (r : Fin 256) (l : Fin 128) :
    (pieceOf (F := Ideal) arg2 harg2 arg3 harg3 x1 x2 k).2 (ix2 r l) = dequant x1 x2 r ⟨128 * k.val + l.val, by omega⟩ := by
  show chunk (F := Ideal) (BitVec.ofNat 32 (64 * (k.val % 2))) (BitVec.ofNat 32 (4 * k.val)) (bytesOf arg2 harg2 x1 k)
    (scalesOf arg3 harg3 x2) (ix2 r l) = _
  rw [chunk_apply k ⟨k.val % 2, Nat.mod_lt _ (by decide)⟩, bytesOf_apply, scalesOf_apply]
  unfold dequant
  have ec : (⟨128 * (k.val / 2) + (srcOf ⟨k.val % 2, Nat.mod_lt _ (by decide)⟩ l).val, by omega⟩ : Fin 2048)
      = packedCol ⟨128 * k.val + l.val, by omega⟩ := by
    apply Fin.ext
    show 128 * (k.val / 2) + (64 * (k.val % 2) + l.val / 32 * 16 + l.val % 16)
      = 16 * ((128 * k.val + l.val) / 32) + (128 * k.val + l.val) % 16
    omega
  have eg : groupOf k l = groupCol ⟨128 * k.val + l.val, by omega⟩ := by
    apply Fin.ext
    show 4 * k.val + l.val / 32 = (128 * k.val + l.val) / 32
    omega
  have eh : l.val / 16 % 2 = (128 * k.val + l.val) / 16 % 2 := by omega
  rw [ec, eg, eh]

/-- The scratch array as the product loads it: the block of dequantised weights. -/
theorem scratch_apply (c : Dev nD) (arg5 : Memref sig .tc .vmem S256x4096 .bf16) (r : Fin 256) (q : Fin 4096) :
    kernelRun0_A.sl.v4612 (F := Ideal) c arg2 harg2 arg3 harg3 arg5 x1 x2 (ix2 r q) = dequant x1 x2 r q := by
  unfold kernelRun0_A.sl.v4612
  rw [writes_eq]
  have hidx : (Rect.unit (s := S256x4096) ![0, 0] ![256, 4096] inb_S256x4096_S256x4096_0_0).toLoadRect.idx (ix2 r q)
      = (ix2 r q : S256x4096.Idx) := by
    funext a
    apply Fin.ext
    match a with
    | ⟨0, _⟩ => show 0 + 1 * r.val = r.val; omega
    | ⟨1, _⟩ => show 0 + 1 * q.val = q.val; omega
  show arg5.view.read (Elt Ideal) _ ((Rect.unit (s := S256x4096) ![0, 0] ![256, 4096] inb_S256x4096_S256x4096_0_0).toLoadRect.idx (ix2 r q)) = _
  rw [hidx]
  refine View.read_writes_apply_of_pieces (Val := Elt Ideal) arg5.view _ (fun j : S256x4096.Idx => (dequant x1 x2 (j 0) (j 1) : EReal)) _ ?_
    (ix2 r q) ?_
  · intro p hp y
    obtain ⟨k, -, rfl⟩ := List.mem_map.1 hp
    rw [eq_ix2 y]
    refine (pieceOf_apply arg2 harg2 arg3 harg3 x1 x2 k (y 0) (y 1)).trans ?_
    congr 1
    · apply Fin.ext
      show (y 0).val = 0 + 1 * (y 0).val
      omega
    · apply Fin.ext
      show 128 * k.val + (y 1).val = 128 * k.val + 1 * (y 1).val
      omega
  · refine ⟨pieceOf arg2 harg2 arg3 harg3 x1 x2 ⟨q.val / 128, by omega⟩,
      List.mem_map.2 ⟨_, List.mem_reverse.2 (List.mem_finRange _), rfl⟩, ?_⟩
    refine (Rect.mem_set_unit (inb := inb_chunk ⟨q.val / 128, by omega⟩)).2 fun a => ?_
    match a with
    | ⟨0, _⟩ => show 0 ≤ r.val ∧ r.val < 0 + 256; omega
    | ⟨1, _⟩ => show 128 * (q.val / 128) ≤ q.val ∧ q.val < 128 * (q.val / 128) + 128; omega

end

/-- What the one product of a grid point stores at row `i`, column `r`. -/
theorem product_apply (c : Dev nD) (arg1 : Memref sig .tc .vmem S1536x4096 .bf16) (harg1 : arg1.IsWhole)
    (arg2 : Memref sig .tc .vmem S256x2048 .i8) (harg2 : arg2.IsWhole) (arg3 : Memref sig .tc .vmem S256x128 .bf16)
    (harg3 : arg3.IsWhole) (arg5 : Memref sig .tc .vmem S256x4096 .bf16)
    (x0 : Vec Ideal S1536x4096 .bf16) (x1 : Vec Ideal S256x2048 .i8) (x2 : Vec Ideal S256x128 .bf16) (i : Fin 1536) (r : Fin 256) :
    k0_pay1 (F := Ideal) (kernelRun0_A.sl.r_62 c arg1 harg1 x0) (kernelRun0_A.sl.v4612 c arg2 harg2 arg3 harg3 arg5 x1 x2) (ix2 i r)
      = ∑ q : Fin 4096, (x0 (ix2 i q) : EReal) * dequant x1 x2 r q := by
  unfold k0_pay1
  rw [shapeCast_self, truncf_apply]
  refine (Ideal.matmul_transposedRhs_apply (M := 1536) (K := 4096) (N := 256) none _ _ _ i r).trans ?_
  rw [constant_apply, Ideal.ofBits_zero_f32, zero_add]
  refine Finset.sum_congr rfl fun q _ => ?_
  rw [scratch_apply]
  congr 1
  unfold kernelRun0_A.sl.r_62
  rw [harg1.readAt_unread]
  refine congrArg x0 (funext fun a => Fin.ext ?_)
  match a with
  | ⟨0, _⟩ => show 0 + 1 * i.val = i.val; omega
  | ⟨1, _⟩ => show 0 + 1 * q.val = q.val; omega

/-- The block of the result: at row `i`, column `r`, the sum over the 4096 columns of the activation times the dequantised
    weight of the block's row `r`. -/
theorem out_apply (c : Dev nD) (p : grid0.Coords) (arg1 : Memref sig .tc .vmem S1536x4096 .bf16) (harg1 : arg1.IsWhole)
    (arg2 : Memref sig .tc .vmem S256x2048 .i8) (harg2 : arg2.IsWhole) (arg3 : Memref sig .tc .vmem S256x128 .bf16)
    (harg3 : arg3.IsWhole) (arg4 : Memref sig .tc .vmem S1536x256 .bf16) (harg4 : arg4.IsWhole)
    (arg5 : Memref sig .tc .vmem S256x4096 .bf16) (harg5 : arg5.IsWhole)
    (x0 : Vec Ideal S1536x4096 .bf16) (x1 : Vec Ideal S256x2048 .i8) (x2 : Vec Ideal S256x128 .bf16) (i : Fin 1536) (r : Fin 256) :
    out0_A_3 (F := Ideal) c p arg1 harg1 arg2 harg2 arg3 harg3 arg4 harg4 arg5 harg5 x0 x1 x2 (ix2 i r)
      = ∑ q : Fin 4096, (x0 (ix2 i q) : EReal) * dequant x1 x2 r q := by
  unfold out0_A_3 kernelRun0_A
  dsimp only
  have hidx : ∀ y : S1536x256.Idx, (Rect.unit (s := S1536x256) ![0, 0] ![1536, 256] inb_S1536x256_S1536x256_0_0).emb y = y := by
    intro y
    funext a
    apply Fin.ext
    match a with
    | ⟨0, _⟩ => show 0 + 1 * (y 0).val = (y 0).val; omega
    | ⟨1, _⟩ => show 0 + 1 * (y 1).val = (y 1).val; omega
  refine View.read_writes_apply_of_pieces (Val := Elt Ideal) VO0_3 _
    (fun j : S1536x256.Idx => ((∑ q : Fin 4096, (x0 (ix2 (j 0) q) : EReal) * dequant x1 x2 (j 1) q) : EReal)) _ ?_ (ix2 i r) ?_
  · intro pc hpc y
    rw [List.mem_singleton] at hpc
    subst hpc
    dsimp only
    rw [hidx]
    exact (congrArg _ (eq_ix2 (n0 := 1536) (n1 := 256) y)).trans (product_apply ..)
  · refine ⟨_, List.mem_singleton.2 rfl, ?_⟩
    refine (Rect.mem_set_unit (inb := inb_S1536x256_S1536x256_0_0)).2 fun a => ?_
    match a with
    | ⟨0, _⟩ => show 0 ≤ i.val ∧ i.val < 0 + 1536; omega
    | ⟨1, _⟩ => show 0 ≤ r.val ∧ r.val < 0 + 256; omega

end Cert.KernelIdeal.Value

end
-- ==== Proof.Array.lean ====
/- What the result array of the kernel holds after the run: at every row and column, the sum over the 4096 columns of the
   activation times the dequantised weight. -/
module

public import proofs.«01_k».proof.Proof.Block
public import proofs.«01_k».proof.Proof.Gen.KernelIdeal.Value

@[expose] public section

noncomputable section

namespace Cert.KernelIdeal.Result

open Cert.KernelIdeal Cert.KernelIdeal.Gen Cert.KernelIdeal.Value Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The product of the activations with the dequantised weights, at row `i` of the activations and row `o` of the weights. -/
def product (x : S1536x1x4096.Idx → EReal) (w : S11008x2048.Idx → BitVec 8) (s : S11008x128.Idx → EReal)
    (i : Fin 1536) (o : Fin 11008) : EReal :=
  ∑ q : Fin 4096, x (ix3 i 0 q) * dequant w s o q

/-- The first argument as the kernel reads it: the host reshapes it to two axes first. -/
theorem V_x (c : Dev nD) : V m c main_v0 = shapeCast S1536x4096 (m ((c : Thread nD τ).loc main_arg0)) shapeCasts_S1536x1x4096_S1536x4096 := by
  unfold V hostOps0
  after_results <;> rfl

/-- The reshape of the activations drops their middle axis, of one. -/
theorem shapeCast_x {α : Type} (x : S1536x1x4096.Idx → α) (i : Fin 1536) (q : Fin 4096) :
    shapeCast S1536x4096 x shapeCasts_S1536x1x4096_S1536x4096 (ix2 i q) = x (ix3 i 0 q) :=
  shapeCast_apply x _ _ _ (by
    rw [Shape.rowMajor_val_three, Shape.rowMajor_val_two]
    show (i.val * 1 + 0) * 4096 + q.val = i.val * 4096 + q.val
    omega)

/-- The block indices of the windows at each grid point. -/
theorem blockIdx : ∀ t : Fin cfg0.N, win0_0.index t = ![0, 0] ∧ win0_1.index t = ![t.val, 0] ∧ win0_2.index t = ![t.val, 0]
    ∧ win0_3.index t = ![0, t.val] := by
  decide +kernel

/-- The activations as a grid point stages them: the whole array. -/
theorem iblk_x (c : Dev nD) (t : Fin cfg0.N) (i : Fin 1536) (q : Fin 4096) :
    (iblk m c 0 t : Vec Ideal S1536x4096 .bf16) (ix2 i q) = m ((c : Thread nD τ).loc main_arg0) (ix3 i 0 q) := by
  have hi : win0_0.index t 0 = 0 ∧ win0_0.index t 1 = 0 := by rw [(blockIdx t).1]; exact ⟨rfl, rfl⟩
  have e : (iblk m c 0 t : Vec Ideal S1536x4096 .bf16) (ix2 i q) = V m c main_v0 (ix2 i q) := by
    unfold iblk
    rw [View.read_apply]
    show V m c main_v0 _ = V m c main_v0 _
    congr 1
    funext a
    apply Fin.ext
    match a with
    | ⟨0, _⟩ => show win0_0.index t 0 * 1536 + 1 * i.val = i.val; rw [hi.1]; omega
    | ⟨1, _⟩ => show win0_0.index t 1 * 4096 + 1 * q.val = q.val; rw [hi.2]; omega
  rw [e, V_x]
  exact shapeCast_x _ i q

/-- The packed weights as grid point `t` stages them: rows `256 · t` on. -/
theorem iblk_w (c : Dev nD) (t : Fin cfg0.N) (r : Fin 256) (q : Fin 2048) (o : Fin 11008) (ho : o.val = 256 * t.val + r.val) :
    (iblk m c 1 t : Vec Ideal S256x2048 .i8) (ix2 r q) = m ((c : Thread nD τ).loc main_arg1) (ix2 o q) := by
  have hi : win0_1.index t 0 = t.val ∧ win0_1.index t 1 = 0 := by rw [(blockIdx t).2.1]; exact ⟨rfl, rfl⟩
  unfold iblk
  rw [View.read_apply]
  show V m c main_arg1 _ = _
  rw [V_main_arg1]
  congr 1
  funext a
  apply Fin.ext
  match a with
  | ⟨0, _⟩ => show win0_1.index t 0 * 256 + 1 * r.val = o.val; rw [hi.1]; omega
  | ⟨1, _⟩ => show win0_1.index t 1 * 2048 + 1 * q.val = q.val; rw [hi.2]; omega

/-- The scales as grid point `t` stages them: rows `256 · t` on. -/
theorem iblk_s (c : Dev nD) (t : Fin cfg0.N) (r : Fin 256) (q : Fin 128) (o : Fin 11008) (ho : o.val = 256 * t.val + r.val) :
    (iblk m c 2 t : Vec Ideal S256x128 .bf16) (ix2 r q) = m ((c : Thread nD τ).loc main_arg2) (ix2 o q) := by
  have hi : win0_2.index t 0 = t.val ∧ win0_2.index t 1 = 0 := by rw [(blockIdx t).2.2.1]; exact ⟨rfl, rfl⟩
  unfold iblk
  rw [View.read_apply]
  show V m c main_arg2 _ = _
  rw [V_main_arg2]
  congr 1
  funext a
  apply Fin.ext
  match a with
  | ⟨0, _⟩ => show win0_2.index t 0 * 256 + 1 * r.val = o.val; rw [hi.1]; omega
  | ⟨1, _⟩ => show win0_2.index t 1 * 128 + 1 * q.val = q.val; rw [hi.2]; omega

/-- What the result array is shown to hold. -/
def result (c : Dev nD) : Buf (Elt Ideal) ((c : Thread nD τ).loc main_v1) := fun j =>
  product (m ((c : Thread nD τ).loc main_arg0)) (m ((c : Thread nD τ).loc main_arg1)) (m ((c : Thread nD τ).loc main_arg2)) (j 0) (j 1)

/-- What grid point `t` writes back is its block of `result`. -/
theorem flushed_eq (c : Dev nD) (t : Fin cfg0.N) :
    (dats m 0 c).flushed 3 t = ((cfg0.win 3).blk t).view.read (Elt Ideal) (result m c) := by
  have hi : win0_3.index t 0 = 0 ∧ win0_3.index t 1 = t.val := by rw [(blockIdx t).2.2.2]; exact ⟨rfl, rfl⟩
  have ht : t.val < 43 := t.isLt
  rw [flushed3_A]
  funext j
  rw [View.read_apply]
  have h0 : (j 0).val < 1536 := (j 0).isLt
  have h1 : (j 1).val < 256 := (j 1).isLt
  have ej : ((cfg0.win 3).blk t).view.emb j = (ix2 ⟨(j 0).val, h0⟩ ⟨256 * t.val + (j 1).val, by omega⟩ : S1536x11008.Idx) := by
    funext a
    apply Fin.ext
    match a with
    | ⟨0, _⟩ => show win0_3.index t 0 * 1536 + 1 * (j 0).val = (j 0).val; rw [hi.1]; omega
    | ⟨1, _⟩ => show win0_3.index t 1 * 256 + 1 * (j 1).val = 256 * t.val + (j 1).val; rw [hi.2]; omega
  rw [ej]
  have hcut : ∀ v : Vec Ideal S1536x256 .bf16, (cfg0.win 3).cut (grid0.coords t) v j = v (ix2 ⟨(j 0).val, h0⟩ ⟨(j 1).val, h1⟩) := by
    intro v
    show v _ = v _
    congr 1
    funext a
    apply Fin.ext
    match a with
    | ⟨0, _⟩ => rfl
    | ⟨1, _⟩ => rfl
  rw [hcut, out_apply]
  show _ = product _ _ _ ⟨(j 0).val, h0⟩ ⟨256 * t.val + (j 1).val, _⟩
  unfold product
  refine Finset.sum_congr rfl fun q _ => ?_
  rw [iblk_x]
  unfold dequant
  rw [iblk_w m c t ⟨(j 1).val, h1⟩ _ ⟨256 * t.val + (j 1).val, by omega⟩ rfl,
    iblk_s m c t ⟨(j 1).val, h1⟩ _ ⟨256 * t.val + (j 1).val, by omega⟩ rfl]

/-- The 43 blocks tile the result array. -/
theorem cover (i : S1536x11008.Idx) :
    ∃ t : Fin cfg0.N, (cfg0.win 3).flush t = true ∧ i ∈ ((cfg0.win 3).blk t).view.set := by
  have h0 : (i 0).val < 1536 := (i 0).isLt
  have h1 : (i 1).val < 11008 := (i 1).isLt
  have hN : cfg0.N = 43 := N_0
  refine ⟨⟨(i 1).val / 256, by omega⟩, flush0_3 _, ?_⟩
  generalize ht : (⟨(i 1).val / 256, by omega⟩ : Fin cfg0.N) = t
  have htv : t.val = (i 1).val / 256 := by rw [← ht]
  have hi : win0_3.index t 0 = 0 ∧ win0_3.index t 1 = t.val := by rw [(blockIdx t).2.2.2]; exact ⟨rfl, rfl⟩
  show i ∈ ((View.whole main_v1).slice (win0_3.rect t)).set
  rw [View.set_slice_whole, Rect.mem_set_unit]
  intro a
  match a with
  | ⟨0, _⟩ => show win0_3.index t 0 * 1536 ≤ (i 0).val ∧ (i 0).val < win0_3.index t 0 * 1536 + 1536; rw [hi.1]; omega
  | ⟨1, _⟩ => show win0_3.index t 1 * 256 ≤ (i 1).val ∧ (i 1).val < win0_3.index t 1 * 256 + 256; rw [hi.2]; omega

/-- So the result array ends holding `result`, -/
theorem final (c : Dev nD) : (dats m 0 c).arrAt 3 cfg0.N = result m c :=
  (dats m 0 c).arrAt_eq_of_cover 3 (result m c) (fun t _ => flushed_eq m c t) cover

/-- and the run of the kernel, read: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Result

end
-- ==== Proof.Reference.lean ====
/- What the reference computes: the two halves of each group of 32 columns are contracted apart and added. Re-indexing the two
   sums gives the one sum over all 4096 columns of the activation times the dequantised weight. -/
module

public import proofs.«01_k».proof.Proof.Array
public import proofs.«01_k».proof.Proof.Gen.ReferenceIdeal.Run
public import Idealize.ShloMosaic.Lib.TwoAxisContraction

@[expose] public section

noncomputable section

namespace Cert.ReferenceIdeal.Result

open Cert.ReferenceIdeal Cert.ReferenceIdeal.Gen Idealize.ShloMosaic Idealize.ShloMosaic.TcCoe Idealize.SL.Sem
open Idealize.ShloMosaic.ValueIdx
open Cert.KernelIdeal.Value (nibble weight dequant packedCol groupCol)
open Cert.KernelIdeal.Result (product)
open scoped BigOperators

/-- Column `j` of half `h` of group `g`. -/
def col (h : Fin 2) (g : Fin 128) (j : Fin 16) : Fin 4096 := ⟨32 * g.val + 16 * h.val + j.val, by omega⟩

/-! ## The sum over all columns, split in two halves of each group -/

/-- A column is a half, a group and a place in the half. -/
def colEquiv : (Fin 2 × Fin 128 × Fin 16) ≃ Fin 4096 where
  toFun p := col p.1 p.2.1 p.2.2
  invFun c := (⟨c.val / 16 % 2, by omega⟩, ⟨c.val / 32, by omega⟩, ⟨c.val % 16, by omega⟩)
  left_inv p := by
    obtain ⟨h, g, j⟩ := p
    refine Prod.ext (Fin.ext ?_) (Prod.ext (Fin.ext ?_) (Fin.ext ?_))
    · show (32 * g.val + 16 * h.val + j.val) / 16 % 2 = h.val; omega
    · show (32 * g.val + 16 * h.val + j.val) / 32 = g.val; omega
    · show (32 * g.val + 16 * h.val + j.val) % 16 = j.val; omega
  right_inv c := Fin.ext (by show 32 * (c.val / 32) + 16 * (c.val / 16 % 2) + c.val % 16 = c.val; omega)

/-- The sum over the columns is the sum over the low halves of the groups plus that over the high halves. -/
theorem sum_col {M : Type*} [AddCommMonoid M] (f : Fin 4096 → M) :
    ∑ c, f c = (∑ g, ∑ j, f (col 0 g j)) + ∑ g, ∑ j, f (col 1 g j) := by
  rw [← Equiv.sum_comp colEquiv f, Fintype.sum_prod_type, Fin.sum_univ_two, Fintype.sum_prod_type, Fintype.sum_prod_type]
  rfl

/-! ## The reference's operations at an index -/

/-- Half `h` of the activations, grouped: columns `16 · h` to `16 · h + 15` of each group of 32. -/
theorem slice_apply {α : Type} (x : S1536x1x4096.Idx → α) (h : Fin 2) (hs : S1536x1x128x32.Slices ![0, 0, 0, 16 * h.val] S1536x1x128x16)
    (i : Fin 1536) (g : Fin 128) (j : Fin 16) :
    extractStridedSlice S1536x1x128x16 ![0, 0, 0, 16 * h.val] (shapeCast S1536x1x128x32 x shapeCasts_S1536x1x4096_S1536x1x128x32) hs
      (ix4 i 0 g j) = x (ix3 i 0 (col h g j)) := by
  refine (extractStridedSlice_apply _ _ _ _ (ix4 i 0 g ⟨16 * h.val + j.val, by omega⟩) ?_).trans (shapeCast_apply x _ _ _ ?_)
  · intro a
    match a with
    | ⟨0, _⟩ => exact (Nat.zero_add _).symm
    | ⟨1, _⟩ => rfl
    | ⟨2, _⟩ => exact (Nat.zero_add _).symm
    | ⟨3, _⟩ => rfl
  · rw [Shape.rowMajor_val_three, Shape.rowMajor_val_four]
    show (i.val * 1 + 0) * 4096 + (32 * g.val + 16 * h.val + j.val) = ((i.val * 1 + 0) * 128 + g.val) * 32 + (16 * h.val + j.val)
    omega

/-- The packed bytes, grouped 16 to a group. -/
theorem packed_apply {α : Type} (w : S11008x2048.Idx → α) (o : Fin 11008) (g : Fin 128) (j : Fin 16) (h : Fin 2) :
    shapeCast S11008x128x16 w shapeCasts_S11008x2048_S11008x128x16 (ix3 o g j) = w (ix2 o (packedCol (col h g j))) :=
  shapeCast_apply w _ _ _ (by
    rw [Shape.rowMajor_val_three, Shape.rowMajor_val_two]
    show o.val * 2048 + (16 * ((32 * g.val + 16 * h.val + j.val) / 32) + (32 * g.val + 16 * h.val + j.val) % 16)
      = (o.val * 128 + g.val) * 16 + j.val
    omega)

/-- The scales, one to a group. -/
theorem scale_apply {α : Type} (s : S11008x128.Idx → α) (o : Fin 11008) (g : Fin 128) (j : Fin 16) (h : Fin 2) :
    broadcastInDim S11008x128x16 ![0, 1, 2] bcast_S11008x128x1_S11008x128x16_0_1_2
      (broadcastInDim S11008x128x1 ![0, 1] bcast_S11008x128_S11008x128x1_0_1 s) (ix3 o g j) = s (ix2 o (groupCol (col h g j))) := by
  refine (broadcastInDim_apply _ _ _ _ (ix3 o g 0) ?_).trans (broadcastInDim_apply _ _ _ _ _ ?_)
  · intro a
    match a with
    | ⟨0, _⟩ => rfl
    | ⟨1, _⟩ => rfl
    | ⟨2, _⟩ => rfl
  · intro a
    match a with
    | ⟨0, _⟩ => rfl
    | ⟨1, _⟩ => show (32 * g.val + 16 * h.val + j.val) / 32 = g.val; omega

/-- The low code of a byte, as the reference takes it from the byte widened to 32 bits. -/
theorem low_toInt : ∀ b : BitVec 8, (IntOp.andi (b.setWidth 32) 15#32).toInt = (nibble b 0).toInt := by decide +kernel

/-- The high code of a byte, likewise. -/
theorem high_toInt : ∀ b : BitVec 8, (IntOp.shrsi .host (b.setWidth 32) 4#32).toInt = (nibble b 1).toInt := by decide +kernel

/-- The packed bytes as the reference widens them, 16 to a group. -/
def widened (w : IVec S11008x2048 8) : IVec S11008x128x16 32 :=
  extui 32 (shapeCast S11008x128x16 w shapeCasts_S11008x2048_S11008x128x16) natLt_8_32

/-- One half of the weights, dequantised by the reference from its codes. -/
def half (code : IVec S11008x128x16 32) (s : FVec Ideal S11008x128 .bf16) : FVec Ideal S11008x128x16 .bf16 :=
  mulf (subf (sitofp .bf16 code) (broadcastInDim S11008x128x16 ![] bcast_S_S11008x128x16 (constant S_ .bf16 0x4100#16)))
    (broadcastInDim S11008x128x16 ![0, 1, 2] bcast_S11008x128x1_S11008x128x16_0_1_2
      (broadcastInDim S11008x128x1 ![0, 1] bcast_S11008x128_S11008x128x1_0_1 s))

/-- The dequantised half `h` of the weights at row `o`, group `g`, place `j`, given that the reference's code there is the
    code of half `h` of the packed byte. -/
theorem half_apply (code : IVec S11008x128x16 32) (w : S11008x2048.Idx → BitVec 8) (s : FVec Ideal S11008x128 .bf16) (h : Fin 2)
    (o : Fin 11008) (g : Fin 128) (j : Fin 16)
    (hc : (code (ix3 o g j)).toInt = (nibble (w (ix2 o (packedCol (col h g j)))) h.val).toInt) :
    half code s (ix3 o g j) = dequant w s o (col h g j) := by
  unfold half
  rw [mulf_apply, subf_apply, scale_apply s o g j h, sitofp_apply]
  unfold dequant weight
  have eh : (col h g j).val / 16 % 2 = h.val := by
    show (32 * g.val + 16 * h.val + j.val) / 16 % 2 = h.val
    omega
  rw [eh, ← hc]
  rfl

/-- One of the reference's two contractions, over the groups and the places of a half. -/
theorem contract_apply (x : FVec Ideal S1536x1x128x16 .bf16) (w : FVec Ideal S11008x128x16 .bf16) (i : Fin 1536) (o : Fin 11008) :
    (Host.dotGeneral dot_S1536x1x128x16_S11008x128x16_S1536x1x11008_23_12_01_0_n_n none x w : FVec Ideal S1536x1x11008 .f32) (ix3 i 0 o)
      = ∑ g : Fin 128, ∑ j : Fin 16, (x (ix4 i 0 g j) : EReal) * w (ix3 o g j) := by
  unfold Host.dotGeneral
  rw [Ideal.dotGeneral_apply, sum_contr2 dot_S1536x1x128x16_S11008x128x16_S1536x1x11008_23_12_01_0_n_n 128 16 rfl rfl rfl]
  refine Finset.sum_congr rfl fun g _ => Finset.sum_congr rfl fun j _ => ?_
  have h0 := contrEquiv2_symm_val0 dot_S1536x1x128x16_S11008x128x16_S1536x1x11008_23_12_01_0_n_n 128 16 rfl rfl rfl (g, j)
  have h1 := contrEquiv2_symm_val1 dot_S1536x1x128x16_S11008x128x16_S1536x1x11008_23_12_01_0_n_n 128 16 rfl rfl rfl (g, j)
  congr 1
  · refine congrArg x (funext fun a => Fin.ext ?_)
    match a with
    | ⟨0, _⟩ => rfl
    | ⟨1, _⟩ => rfl
    | ⟨2, _⟩ => exact h0
    | ⟨3, _⟩ => exact h1
  · refine congrArg w (funext fun a => Fin.ext ?_)
    match a with
    | ⟨0, _⟩ => rfl
    | ⟨1, _⟩ => exact h0
    | ⟨2, _⟩ => exact h1

/-- The reference's last reshape drops the middle axis, of one. -/
theorem shapeCast_y {α : Type} (y : S1536x1x11008.Idx → α) (i : Fin 1536) (o : Fin 11008) :
    shapeCast S1536x11008 y shapeCasts_S1536x1x11008_S1536x11008 (ix2 i o) = y (ix3 i 0 o) :=
  shapeCast_apply y _ _ _ (by
    rw [Shape.rowMajor_val_three, Shape.rowMajor_val_two]
    show (i.val * 1 + 0) * 11008 + o.val = i.val * 11008 + o.val
    omega)

/-- The reference's result, as its operations compose. -/
def value (x : FVec Ideal S1536x1x4096 .bf16) (w : IVec S11008x2048 8) (s : FVec Ideal S11008x128 .bf16) : FVec Ideal S1536x11008 .bf16 :=
  shapeCast S1536x11008
    (truncf .bf16
      (addf
        (Host.dotGeneral dot_S1536x1x128x16_S11008x128x16_S1536x1x11008_23_12_01_0_n_n none
          (extractStridedSlice S1536x1x128x16 ![0, 0, 0, 0] (shapeCast S1536x1x128x32 x shapeCasts_S1536x1x4096_S1536x1x128x32)
            slices_S1536x1x128x32_S1536x1x128x16_0_0_0_0)
          (half (andi (widened w) (broadcastInDim S11008x128x16 ![] bcast_S_S11008x128x16 (constantI S_ 32 15#32))) s))
        (Host.dotGeneral dot_S1536x1x128x16_S11008x128x16_S1536x1x11008_23_12_01_0_n_n none
          (extractStridedSlice S1536x1x128x16 ![0, 0, 0, 16] (shapeCast S1536x1x128x32 x shapeCasts_S1536x1x4096_S1536x1x128x32)
            slices_S1536x1x128x32_S1536x1x128x16_0_0_0_16)
          (half (Host.shrsi (widened w) (broadcastInDim S11008x128x16 ![] bcast_S_S11008x128x16 (constantI S_ 32 4#32))) s)))
      bitsLt_bf16_f32)
    shapeCasts_S1536x1x11008_S1536x11008

/-- The reference's result is the product of the activations with the dequantised weights. -/
theorem value_apply (x : FVec Ideal S1536x1x4096 .bf16) (w : IVec S11008x2048 8) (s : FVec Ideal S11008x128 .bf16)
    (i : Fin 1536) (o : Fin 11008) : value x w s (ix2 i o) = product x w s i o := by
  unfold value
  rw [shapeCast_y, truncf_apply, addf_apply, contract_apply, contract_apply]
  unfold product
  rw [sum_col]
  congr 1
  · refine Finset.sum_congr rfl fun g _ => Finset.sum_congr rfl fun j _ => ?_
    refine congrArg₂ (· * ·) (slice_apply x 0 _ i g j) (half_apply _ w s 0 o g j ?_)
    show (IntOp.andi ((shapeCast S11008x128x16 w shapeCasts_S11008x2048_S11008x128x16 (ix3 o g j)).setWidth 32) 15#32).toInt = _
    rw [low_toInt, packed_apply w o g j 0]
    rfl
  · refine Finset.sum_congr rfl fun g _ => Finset.sum_congr rfl fun j _ => ?_
    refine congrArg₂ (· * ·) (slice_apply x 1 _ i g j) (half_apply _ w s 1 o g j ?_)
    show (IntOp.shrsi .host ((shapeCast S11008x128x16 w shapeCasts_S11008x2048_S11008x128x16 (ix3 o g j)).setWidth 32) 4#32).toInt = _
    rw [high_toInt, packed_apply w o g j 1]
    rfl

/-- The same for the whole array: the reference's result is the array that the kernel leaves. -/
theorem value_eq (x : FVec Ideal S1536x1x4096 .bf16) (w : IVec S11008x2048 8) (s : FVec Ideal S11008x128 .bf16) :
    value x w s = fun j => product x w s (j 0) (j 1) := by
  funext y
  exact (congrArg (value x w s) (eq_ix2 (n0 := 1536) (n1 := 11008) y)).trans (value_apply x w s (y 0) (y 1))

variable (m : (ℓ : Loc nD τ sig) → Buf (Elt Ideal) ℓ) (ρ : Dev nD → PrngReg)

/-- The run of the reference, read: the result array at `value` of the arguments, the arguments unchanged. -/
theorem run : θ_run defs (onTc (τ := τ) (main (F := Ideal))) ⟨m, fun _ => 0, ρ⟩ fun r => ∀ c : Dev nD,
      r.2.mem ((c.tc : Thread nD τ).loc main_v25)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame at `Bits`: every run ends, the arguments unchanged, every counter at zero. -/
theorem frame_kernel : Cert.quiescent_Kernel (hKernel := Cert.Kernel.Gen.facts) := fun m ρ _ => Cert.Kernel.Gen.frame m ρ

/-- The kernel's frame at `Ideal`. -/
theorem frame_kernelIdeal : Cert.quiescent_KernelIdeal (hKernelIdeal := Cert.KernelIdeal.Gen.facts) :=
  fun m ρ _ => Cert.KernelIdeal.Gen.frame m ρ

/-- The reference's frame at `Ideal`. It declares no semaphore, so it has no counter. -/
theorem frame_referenceIdeal : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems rfl r.2⟩) (Cert.ReferenceIdeal.Result.run m ρ)

/-- The two results are equal at the exact numbers: both are, at row `i` and column `o`, the sum over the 4096
    columns of the activation times the dequantised weight. -/
theorem results_equal : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Result.result m c, Cert.KernelIdeal.Result.run m ρ, ?_⟩
  refine (θ_run (Cert.ReferenceIdeal.defs (F := Ideal)) _ _).mono (fun r h c => ?_) (Cert.ReferenceIdeal.Result.run m' ρ')
  obtain ⟨hv, h0, h1, h2⟩ := h c
  refine ⟨hv.trans ?_, h0, h1, h2⟩
  rw [(hargs c).1, (hargs c).2.1, (hargs c).2.2]
  exact Cert.ReferenceIdeal.Result.value_eq _ _ _

/-- The certificate: the three frames, the idealization (which rewrites nothing) and the equation of the results. -/
theorem claim : Cert.Claim :=
  ⟨Cert.Kernel.Gen.facts, Cert.KernelIdeal.Gen.facts, Cert.ReferenceIdeal.Gen.facts,
    frame_kernel, frame_kernelIdeal, frame_referenceIdeal, trivial, results_equal⟩

end Cert.Proof

end
